-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid_inputs [hPre_valid_inputs : Cert.Pre_valid_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_valid_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid_inputs [hPre_valid_inputs : Cert.Pre_valid_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_valid_inputs [hKernelIdeal : Cert.KernelIdeal.Facts] [hPre_valid_inputs : Cert.Pre_valid_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_valid_inputs [hReferenceIdeal : Cert.ReferenceIdeal.Facts] [hPre_valid_inputs : Cert.Pre_valid_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "off_weight" .f32 0x38D1ECD5#32 ((1 / 9990 : ℝ) : EReal)
  ∧ IdealRules.named_const.Statement Cert.KernelIdeal.κ "weight_gap" .f32 0x3F665FD7#32 ((899 / 999 : ℝ) : EReal)

def algebraic_KernelIdeal_ReferenceIdeal_pre_valid_inputs [hKernelIdeal : Cert.KernelIdeal.Facts] [hReferenceIdeal : Cert.ReferenceIdeal.Facts] [hPre_valid_inputs : Cert.Pre_valid_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_valid_inputs : Cert.Pre_valid_inputs.Facts),
    quiescent_Kernel (hKernel := hKernel)
    ∧ quiescent_KernelIdeal (hKernelIdeal := hKernelIdeal)
    ∧ quiescent_KernelIdeal_pre_valid_inputs (hKernelIdeal := hKernelIdeal) (hPre_valid_inputs := hPre_valid_inputs)
    ∧ quiescent_ReferenceIdeal (hReferenceIdeal := hReferenceIdeal)
    ∧ quiescent_ReferenceIdeal_pre_valid_inputs (hReferenceIdeal := hReferenceIdeal) (hPre_valid_inputs := hPre_valid_inputs)
    ∧ preserves_Kernel_KernelIdeal
    ∧ algebraic_KernelIdeal_ReferenceIdeal_pre_valid_inputs (hKernelIdeal := hKernelIdeal) (hReferenceIdeal := hReferenceIdeal) (hPre_valid_inputs := hPre_valid_inputs)
-- ==== Pre_valid_inputs.lean ====
abbrev S16384x1000 : Shape := ⟨2, ![16384, 1000]⟩
abbrev S16384 : Shape := ⟨1, ![16384]⟩
abbrev S_ : Shape := ⟨0, ![]⟩

class Facts : Prop where
  bcast_S_S16384x1000 : S_.BroadcastsInDim S16384x1000 (![] : Fin 0 → Fin S16384x1000.rank)
  bcast_S_S16384 : S_.BroadcastsInDim S16384 (![] : Fin 0 → Fin S16384.rank)
  reducesTo_S16384x1000_S_d0_1 : S16384x1000.ReducesTo [0, 1] S_
  h_S_ : 0 < S_.numel
  reducesTo_S16384_S_d0 : S16384.ReducesTo [0] S_

variable [Facts]

def fn {F : FTy → Type} [FloatOps F] (main_arg0 : FVec F S16384x1000 .f32) (main_arg1 : IVec S16384 32) : IVec S_ 1 :=
  let main_cst : FVec F S_ .f32 := constant S_ .f32 0x7F800000#32
  let main_v0 : FVec F S16384x1000 .f32 := broadcastInDim S16384x1000 ![] bcast_S_S16384x1000 main_cst
  let main_v1 : IVec S16384x1000 1 := cmpf .olt main_arg0 main_v0
  let main_cst_0 : FVec F S_ .f32 := constant S_ .f32 0xFF800000#32
  let main_v2 : FVec F S16384x1000 .f32 := broadcastInDim S16384x1000 ![] bcast_S_S16384x1000 main_cst_0
  let main_v3 : IVec S16384x1000 1 := cmpf .ogt main_arg0 main_v2
  let main_v4 : IVec S16384x1000 1 := andi main_v1 main_v3
  let main_c : IVec S_ 32 := constantI S_ 32 0#32
  let main_v5 : IVec S16384 32 := broadcastInDim S16384 ![] bcast_S_S16384 main_c
  let main_v6 : IVec S16384 1 := cmpi .sge main_arg1 main_v5
  let main_c_1 : IVec S_ 32 := constantI S_ 32 1000#32
  let main_v7 : IVec S16384 32 := broadcastInDim S16384 ![] bcast_S_S16384 main_c_1
  let main_v8 : IVec S16384 1 := cmpi .slt main_arg1 main_v7
  let main_v9 : IVec S16384 1 := andi main_v6 main_v8
  let main_c_2 : IVec S_ 1 := constantI S_ 1 1#1
  let main_v10 : IVec S_ 1 := (fun x v => Host.reduce IntOp.andi x v reducesTo_S16384x1000_S_d0_1 h_S_) main_v4 main_c_2
  let main_c_3 : IVec S_ 1 := constantI S_ 1 1#1
  let main_v11 : IVec S_ 1 := (fun x v => Host.reduce IntOp.andi x v reducesTo_S16384_S_d0 h_S_) main_v9 main_c_3
  let main_v12 : IVec S_ 1 := andi main_v10 main_v11
  main_v12
-- ==== Kernel.lean ====
abbrev S16384x1000 : Shape := ⟨2, ![16384, 1000]⟩
abbrev S16384 : Shape := ⟨1, ![16384]⟩
abbrev S1000x16384 : Shape := ⟨2, ![1000, 16384]⟩
abbrev S1x1 : Shape := ⟨2, ![1, 1]⟩
abbrev S200x16384 : Shape := ⟨2, ![200, 16384]⟩
abbrev S8x16384 : Shape := ⟨2, ![8, 16384]⟩
abbrev S8x2048 : Shape := ⟨2, ![8, 2048]⟩
abbrev S2048 : Shape := ⟨1, ![2048]⟩
abbrev S1x2048 : Shape := ⟨2, ![1, 2048]⟩
abbrev S1x16384 : Shape := ⟨2, ![1, 16384]⟩
abbrev S1 : Shape := ⟨1, ![1]⟩

abbrev nBuf : Space → Nat
  | .hbm => 4
  | .vmem => 7
  | .smem => 1
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S1000x16384, .f32⟩
  | .hbm, ⟨3, _⟩ => ⟨S1x1, .f32⟩
  | .local _ .vmem, ⟨0, _⟩ => ⟨S200x16384, .f32⟩
  | .local _ .vmem, ⟨1, _⟩ => ⟨S200x16384, .f32⟩
  | .local _ .vmem, ⟨2, _⟩ => ⟨S16384, .i32⟩
  | .local _ .vmem, ⟨3, _⟩ => ⟨S8x16384, .f32⟩
  | .local _ .vmem, ⟨4, _⟩ => ⟨S8x16384, .f32⟩
  | .local _ .vmem, ⟨5, _⟩ => ⟨S8x16384, .f32⟩
  | .local _ .vmem, ⟨6, _⟩ => ⟨S8x16384, .f32⟩
  | .local _ .smem, ⟨0, _⟩ => ⟨S1x1, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c4_i32 : BitVec 32 := 4#32
  let v3013 : BitVec 1 := Scalar.cmpi .eq arg0 c4_i32
  let v3014 : BitVec 32 := Scalar.extui v3013
  let c0_i32_1280 : BitVec 32 := 0#32
  let v3015 : BitVec 1 := Scalar.cmpi .ne v3014 c0_i32_1280
  v3015

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "off_weight" => some ((1 / 9990 : ℝ) : EReal)
  | "weight_gap" => some ((899 / 999 : ℝ) : EReal)
  | _ => none
-- ==== ReferenceIdeal.lean ====
abbrev S16384x1000 : Shape := ⟨2, ![16384, 1000]⟩
abbrev S16384 : Shape := ⟨1, ![16384]⟩
abbrev S_ : Shape := ⟨0, ![]⟩
abbrev S16384x1 : Shape := ⟨2, ![16384, 1]⟩
abbrev S16384x2 : Shape := ⟨2, ![16384, 2]⟩
abbrev S1x1 : Shape := ⟨2, ![1, 1]⟩

abbrev nBuf : Space → Nat
  | .hbm => 54
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S16384x1000, .f32⟩
  | .hbm, ⟨12, _⟩ => ⟨S16384x1000, .f32⟩
  | .hbm, ⟨13, _⟩ => ⟨S16384x1000, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x1, .f32⟩
  | .hbm, ⟨18, _⟩ => ⟨S16384x1000, .f32⟩
  | .hbm, ⟨19, _⟩ => ⟨S16384x1000, .f32⟩
  | .hbm, ⟨20, _⟩ => ⟨S_, .f32⟩
  | .hbm, ⟨21, _⟩ => ⟨S_, .f32⟩
  | .hbm, ⟨22, _⟩ => ⟨S16384x1000, .f32⟩
  | .hbm, ⟨23, _⟩ => ⟨S16384, .i32⟩
  | .hbm, ⟨24, _⟩ => ⟨S_, .f32⟩
  | .hbm, ⟨25, _⟩ => ⟨S_, .f32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S16384x1, .i32⟩
  | .hbm, ⟨42, _⟩ => ⟨S16384x2, .i32⟩
  | .hbm, ⟨43, _⟩ => ⟨S16384, .f32⟩
  | .hbm, ⟨44, _⟩ => ⟨S16384x1000, .f32⟩
  | .hbm, ⟨45, _⟩ => ⟨S16384x1000, .f32⟩
  | .hbm, ⟨46, _⟩ => ⟨S16384x1000, .f32⟩
  | .hbm, ⟨47, _⟩ => ⟨S_, .f32⟩
  | .hbm, ⟨48, _⟩ => ⟨S16384, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S1x1, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v1 : Ref sig .tc := ⟨.hbm, 19, rfl⟩
abbrev main_cst_1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_c : Ref sig .tc := ⟨.hbm, 26, rfl⟩
abbrev main_v6 : Ref sig .tc := ⟨.hbm, 27, rfl⟩
abbrev main_v7 : Ref sig .tc := ⟨.hbm, 28, rfl⟩
abbrev main_c_3 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_4 : Ref sig .tc := ⟨.hbm, 33, rfl⟩
abbrev main_v11 : Ref sig .tc := ⟨.hbm, 34, rfl⟩
abbrev main_v12 : Ref sig .tc := ⟨.hbm, 35, rfl⟩
abbrev main_c_5 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_6 : Ref sig .tc := ⟨.hbm, 47, rfl⟩
abbrev main_v23 : Ref sig .tc := ⟨.hbm, 48, rfl⟩
abbrev main_cst_7 : Ref sig .tc := ⟨.hbm, 49, rfl⟩
abbrev main_v24 : Ref sig .tc := ⟨.hbm, 50, rfl⟩
abbrev main_cst_8 : Ref sig .tc := ⟨.hbm, 51, rfl⟩
abbrev main_v25 : Ref sig .tc := ⟨.hbm, 52, rfl⟩
abbrev main_v26 : Ref sig .tc := ⟨.hbm, 53, rfl⟩

abbrev nD : Nat := 1
abbrev τ : Topo := Topo.v7x

variable {F : FTy → Type} [FloatOps F]
-- ==== Proof.Frames.lean ====
/- The frame claims — each program runs to its end, faults nowhere, leaves its arguments as they were and every
   counter at zero — and the claim that the idealised kernel differs from the kernel only in its two named constants. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel over bit patterns runs, keeps its arguments and ends with every counter at zero. -/
theorem frame_p : Cert.quiescent_Kernel (hKernel := Cert.Kernel.Gen.facts) :=
  fun m ρ _ => Cert.Kernel.Gen.frame m ρ

/-- The idealised kernel runs, keeps its arguments and ends with every counter at zero. -/
theorem frame_pi : Cert.quiescent_KernelIdeal (hKernelIdeal := Cert.KernelIdeal.Gen.facts) :=
  fun m ρ _ => Cert.KernelIdeal.Gen.frame m ρ

/-- The reference over the reals runs from any memory, keeps its arguments and ends with every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The reference's frame claim. -/
theorem frame_ri : Cert.quiescent_ReferenceIdeal (hReferenceIdeal := Cert.ReferenceIdeal.Gen.facts) :=
  fun m ρ _ => reference_frame m ρ

/-- The only places where the idealised kernel was printed differently are the two named weights: each is the real
    number it is named for, and the kernel's own literal is that number rounded. -/
theorem preserves : Cert.preserves_Kernel_KernelIdeal :=
  ⟨IdealRules.named_const.statement Cert.KernelIdeal.κ "off_weight" .f32 0x38D1ECD5#32 ((1 / 9990 : ℝ) : EReal) rfl,
    IdealRules.named_const.statement Cert.KernelIdeal.κ "weight_gap" .f32 0x3F665FD7#32 ((899 / 999 : ℝ) : EReal) rfl⟩

end Cert.Proof

end
-- ==== Proof.Chunk.lean ====
/- What one grid point does to one chunk of 2048 samples, written once for all eight chunks: the running maximum, the
   rescaled sum of exponentials, the plain sum and the sum of the entries at the target, each over the 25 groups of
   eight classes in the point's stripe. First as vectors of eight rows, then read at one lane. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Chunk

open Cert.KernelIdeal Cert.KernelIdeal.Gen Idealize.ShloMosaic Idealize.ShloMosaic.TcCoe Idealize.SL.Sem

/-- Eight rows of 2048 numbers: one group of classes over one chunk of samples. -/
abbrev Tile : Type := FVec Ideal S8x2048 .f32

/-- A stored or loaded tile passes through a cast to its own shape. -/
abbrev same (v : Tile) : Tile := shapeCast S8x2048 v shapeCasts_S8x2048_S8x2048

/-- The maximum of the first `n + 1` of 25 tiles, taken in order. -/
def maxUpTo (tl : Fin 25 → Tile) : (n : ℕ) → n < 25 → Tile
  | 0, h => same (tl ⟨0, h⟩)
  | n + 1, h => maximumf (maxUpTo tl n (Nat.lt_of_succ_lt h)) (same (tl ⟨n + 1, h⟩))

/-- The maximum after the point: the one before it and the 25 tiles'. -/
def newMax (tl : Fin 25 → Tile) (m : Tile) : Tile := maximumf m (maxUpTo tl 24 (by decide))

/-- `s` with the exponentials of the first `n` tiles less `M` added to it, in order. -/
def expUpTo (tl : Fin 25 → Tile) (M s : Tile) : (n : ℕ) → n ≤ 25 → Tile
  | 0, _ => s
  | n + 1, h => addf (expUpTo tl M s n (Nat.le_of_succ_le h)) (exp (subf (same (tl ⟨n, h⟩)) M))

/-- The sum of exponentials after the point: the one before it rescaled to the new maximum, and the 25 tiles'. -/
def newExp (tl : Fin 25 → Tile) (m s : Tile) : Tile :=
  expUpTo tl (newMax tl m) (mulf s (exp (subf m (newMax tl m)))) 25 le_rfl

/-- `s` with the first `n` tiles added to it, in order. -/
def sumUpTo (tl : Fin 25 → Tile) (s : Tile) : (n : ℕ) → n ≤ 25 → Tile
  | 0, _ => s
  | n + 1, h => addf (sumUpTo tl s n (Nat.le_of_succ_le h)) (same (tl ⟨n, h⟩))

/-- Each sample's target, less the stripe's first class and less the lane's row: the tile's first class if it is hit. -/
def place (base : BitVec 32) (t : Vec Ideal S2048 .i32) : IVec S8x2048 32 :=
  subi (broadcastTo S8x2048 (shapeCast S1x2048 (subi (shapeCast S1x2048 t shapeCasts_S2048_S1x2048) (broadcast S1x2048 base))
    shapeCasts_S1x2048_S1x2048) broadcasts_S1x2048_S8x2048) (iota .tc S8x2048 32 [0] iota_S8x2048_d0_w32)

/-- `s` with, of the first `n` tiles, the entries at the target's class added to it, in order. -/
def hitUpTo (tl : Fin 25 → Tile) (tb : IVec S8x2048 32) (s : Tile) : (n : ℕ) → n ≤ 25 → Tile
  | 0, _ => s
  | n + 1, h => addf (hitUpTo tl tb s n (Nat.le_of_succ_le h))
      (select (cmpi .eq tb (broadcast S8x2048 (BitVec.ofNat 32 (8 * n)))) (same (tl ⟨n, h⟩))
        (broadcast S8x2048 (Scalar.ofBits (F := Ideal) .f32 0x00000000#32)))

/-! ## Read at a lane -/

theorem maxUpTo_lane (tl : Fin 25 → Tile) (x : S8x2048.Idx) (f : ℕ → EReal) (hf : ∀ k : Fin 25, tl k x = f k)
    (n : ℕ) (h : n < 25) : maxUpTo tl n h x = (Finset.range (n + 1)).sup f := by
  induction n with
  | zero =>
    unfold maxUpTo
    pointwise
    simp [hf]
  | succ n ih =>
    unfold maxUpTo
    pointwise
    rw [ih, Finset.range_add_one (n := n + 1), Finset.sup_insert, hf, sup_comm]

/-- At a lane the new maximum is the old one and the largest of the lane's 25 entries. -/
theorem newMax_lane (tl : Fin 25 → Tile) (m : Tile) (x : S8x2048.Idx) (f : ℕ → EReal) (hf : ∀ k : Fin 25, tl k x = f k) :
    newMax tl m x = max (m x) ((Finset.range 25).sup f) := by
  unfold newMax
  pointwise
  rw [maxUpTo_lane tl x f hf]

theorem expUpTo_lane (tl : Fin 25 → Tile) (M s : Tile) (x : S8x2048.Idx) (f : ℕ → EReal) (hf : ∀ k : Fin 25, tl k x = f k)
    (n : ℕ) (h : n ≤ 25) : expUpTo tl M s n h x = s x + ∑ k ∈ Finset.range n, Ideal.exp (f k - M x) := by
  induction n with
  | zero => simp [expUpTo]
  | succ n ih =>
    unfold expUpTo
    pointwise
    rw [ih, Finset.sum_range_succ, hf, add_assoc]

/-- At a lane the new sum of exponentials is the old one rescaled, and the exponentials of the lane's 25 entries. -/
theorem newExp_lane (tl : Fin 25 → Tile) (m s : Tile) (x : S8x2048.Idx) (f : ℕ → EReal) (hf : ∀ k : Fin 25, tl k x = f k) :
    newExp tl m s x = s x * Ideal.exp (m x - max (m x) ((Finset.range 25).sup f))
      + ∑ k ∈ Finset.range 25, Ideal.exp (f k - max (m x) ((Finset.range 25).sup f)) := by
  unfold newExp
  rw [expUpTo_lane tl _ _ x f hf, newMax_lane tl m x f hf]
  pointwise
  rw [newMax_lane tl m x f hf]

/-- At a lane the new sum is the old one and the lane's first `n` entries. -/
theorem sumUpTo_lane (tl : Fin 25 → Tile) (s : Tile) (x : S8x2048.Idx) (f : ℕ → EReal) (hf : ∀ k : Fin 25, tl k x = f k)
    (n : ℕ) (h : n ≤ 25) : sumUpTo tl s n h x = s x + ∑ k ∈ Finset.range n, f k := by
  induction n with
  | zero => simp [sumUpTo]
  | succ n ih =>
    unfold sumUpTo
    pointwise
    rw [ih, Finset.sum_range_succ, hf, add_assoc]

/-- At a lane the new sum at the target is the old one and those of the lane's first `n` entries whose class is the target. -/
theorem hitUpTo_lane (tl : Fin 25 → Tile) (tb : IVec S8x2048 32) (s : Tile) (x : S8x2048.Idx) (f : ℕ → EReal)
    (hf : ∀ k : Fin 25, tl k x = f k) (n : ℕ) (h : n ≤ 25) :
    hitUpTo tl tb s n h x = s x + ∑ k ∈ Finset.range n, if tb x = BitVec.ofNat 32 (8 * k) then f k else 0 := by
  induction n with
  | zero => simp [hitUpTo]
  | succ n ih =>
    unfold hitUpTo
    pointwise
    rw [ih, Finset.sum_range_succ, hf, add_assoc]
    by_cases hb : tb x = BitVec.ofNat 32 (8 * n)
    · simp [Scalar.select, IntOp.cmpi, hb]
    · simp [Scalar.select, IntOp.cmpi, hb, beq_eq_false_iff_ne.mpr hb]

/-- At a lane `place` is the sample's target less the stripe's first class less the row. -/
theorem place_lane (base : BitVec 32) (t : Vec Ideal S2048 .i32) (r : Fin 8) (l : Fin 2048) :
    place base t (ix2 r l) = t (ix1 l) - base - BitVec.ofNat 32 r := by
  unfold place
  pointwise
  rfl

/-! ## The blocks a chunk reads -/

/-- The 25 tiles of a stripe over the chunk of samples from `off`. -/
abbrev tiles (x0 : Vec Ideal S200x16384 .f32) (off : ℕ) (hoff : off + 2048 ≤ 16384) (k : Fin 25) : Tile :=
  View.ld x0 (Rect.unit (s := S200x16384) ![8 * k.val, off] ![8, 2048] (by
    have := k.isLt
    intro a
    fin_cases a
    · show 8 * k.val + 8 ≤ 200
      omega
    · show off + 2048 ≤ 16384
      omega))

/-- The chunk from `off` of an array of eight rows. -/
abbrev rows (xs : Vec Ideal S8x16384 .f32) (off : ℕ) (hoff : off + 2048 ≤ 16384) : Tile :=
  View.ld xs (Rect.unit (s := S8x16384) ![0, off] ![8, 2048] (by
    intro a
    fin_cases a
    · show 0 + 8 ≤ 8
      omega
    · show off + 2048 ≤ 16384
      omega))

/-- The chunk from `off` of the targets. -/
abbrev names (x1 : Vec Ideal S16384 .i32) (off : ℕ) (hoff : off + 2048 ≤ 16384) : Vec Ideal S2048 .i32 :=
  View.ld x1 (Rect.unit (s := S16384) ![off] ![2048] (by
    intro a
    fin_cases a
    show off + 2048 ≤ 16384
    omega))

/-- Entry `k` of a lane: the stripe's class `8 k + r` at sample `l`, for `k` below 25. -/
def entry (x0 : Vec Ideal S200x16384 .f32) (r : Fin 8) (l : Fin 16384) (k : ℕ) : EReal :=
  x0 (ix2 (⟨(8 * k + r) % 200, Nat.mod_lt _ (by decide)⟩ : Fin 200) l)

theorem tiles_lane (x0 : Vec Ideal S200x16384 .f32) (off : ℕ) (hoff : off + 2048 ≤ 16384) (r : Fin 8) (j : Fin 2048)
    (l : Fin 16384) (hl : l.val = off + j.val) (k : Fin 25) : tiles x0 off hoff k (ix2 r j) = entry x0 r l k := by
  unfold entry tiles
  pointwise
  have := k.isLt
  have := r.isLt
  refine congrArg x0 ?_
  rw [show (⟨off + j.val, by omega⟩ : Fin 16384) = l from Fin.ext hl.symm]
  exact congrArg (fun a => ix2 a l) (Fin.ext (Nat.mod_eq_of_lt (by omega)).symm)

theorem rows_lane (xs : Vec Ideal S8x16384 .f32) (off : ℕ) (hoff : off + 2048 ≤ 16384) (r : Fin 8) (j : Fin 2048)
    (l : Fin 16384) (hl : l.val = off + j.val) : rows xs off hoff (ix2 r j) = xs (ix2 r l) := by
  unfold rows
  pointwise
  exact congrArg xs (congrArg (ix2 r) (Fin.ext hl.symm))

theorem names_lane (x1 : Vec Ideal S16384 .i32) (off : ℕ) (hoff : off + 2048 ≤ 16384) (j : Fin 2048)
    (l : Fin 16384) (hl : l.val = off + j.val) : names x1 off hoff (ix1 j) = x1 (ix1 l) := by
  unfold names
  pointwise
  exact congrArg x1 (congrArg ix1 (Fin.ext hl.symm))

/-! ## The chunk's results at a lane, from the whole arrays -/

/-- The largest of a lane's 25 entries. -/
abbrev top (x0 : Vec Ideal S200x16384 .f32) (r : Fin 8) (l : Fin 16384) : EReal := (Finset.range 25).sup (entry x0 r l)

/-- What the point leaves in the running maximum. -/
def stepMax (x0 : Vec Ideal S200x16384 .f32) (m : Vec Ideal S8x16384 .f32) : Vec Ideal S8x16384 .f32 :=
  fun y => max (m y) (top x0 (y 0) (y 1))

/-- What the point leaves in the sum of exponentials. -/
def stepExp (x0 : Vec Ideal S200x16384 .f32) (m s : Vec Ideal S8x16384 .f32) : Vec Ideal S8x16384 .f32 :=
  fun y => s y * Ideal.exp (m y - max (m y) (top x0 (y 0) (y 1)))
    + ∑ k ∈ Finset.range 25, Ideal.exp (entry x0 (y 0) (y 1) k - max (m y) (top x0 (y 0) (y 1)))

/-- What the point leaves in the plain sum. -/
def stepSum (x0 : Vec Ideal S200x16384 .f32) (s : Vec Ideal S8x16384 .f32) : Vec Ideal S8x16384 .f32 :=
  fun y => s y + ∑ k ∈ Finset.range 25, entry x0 (y 0) (y 1) k

/-- What the point leaves in the sum at the target, `base` being the stripe's first class. -/
def stepHit (base : BitVec 32) (x0 : Vec Ideal S200x16384 .f32) (x1 : Vec Ideal S16384 .i32) (s : Vec Ideal S8x16384 .f32) :
    Vec Ideal S8x16384 .f32 :=
  fun y => s y + ∑ k ∈ Finset.range 25,
    if x1 (ix1 (y 1)) - base - BitVec.ofNat 32 (y 0).val = BitVec.ofNat 32 (8 * k) then entry x0 (y 0) (y 1) k else 0

variable (x0 : Vec Ideal S200x16384 .f32) (x1 : Vec Ideal S16384 .i32) (xs0 xs1 : Vec Ideal S8x16384 .f32)
  (off : ℕ) (hoff : off + 2048 ≤ 16384) (y : S8x16384.Idx) (x : S8x2048.Idx)

theorem max_at (h0 : (y 0).val = (x 0).val) (h1 : (y 1).val = off + (x 1).val) :
    same (newMax (tiles x0 off hoff) (rows xs0 off hoff)) x = stepMax x0 xs0 y := by
  obtain ⟨r, j, rfl⟩ : ∃ (r : Fin 8) (j : Fin 2048), x = ix2 r j := ⟨x 0, x 1, eq_ix2 x⟩
  obtain ⟨r', l, rfl⟩ : ∃ (r : Fin 8) (l : Fin 16384), y = ix2 r l := ⟨y 0, y 1, eq_ix2 y⟩
  obtain rfl : r' = r := Fin.ext h0
  have hl : l.val = off + j.val := h1
  unfold stepMax
  pointwise
  rw [newMax_lane _ _ _ _ (tiles_lane x0 off hoff r' j l hl), rows_lane xs0 off hoff r' j l hl]

theorem exp_at (h0 : (y 0).val = (x 0).val) (h1 : (y 1).val = off + (x 1).val) :
    same (newExp (tiles x0 off hoff) (rows xs0 off hoff) (rows xs1 off hoff)) x = stepExp x0 xs0 xs1 y := by
  obtain ⟨r, j, rfl⟩ : ∃ (r : Fin 8) (j : Fin 2048), x = ix2 r j := ⟨x 0, x 1, eq_ix2 x⟩
  obtain ⟨r', l, rfl⟩ : ∃ (r : Fin 8) (l : Fin 16384), y = ix2 r l := ⟨y 0, y 1, eq_ix2 y⟩
  obtain rfl : r' = r := Fin.ext h0
  have hl : l.val = off + j.val := h1
  unfold stepExp
  pointwise
  rw [newExp_lane _ _ _ _ _ (tiles_lane x0 off hoff r' j l hl), rows_lane xs0 off hoff r' j l hl, rows_lane xs1 off hoff r' j l hl]

theorem sum_at (h0 : (y 0).val = (x 0).val) (h1 : (y 1).val = off + (x 1).val) :
    same (sumUpTo (tiles x0 off hoff) (rows xs0 off hoff) 25 le_rfl) x = stepSum x0 xs0 y := by
  obtain ⟨r, j, rfl⟩ : ∃ (r : Fin 8) (j : Fin 2048), x = ix2 r j := ⟨x 0, x 1, eq_ix2 x⟩
  obtain ⟨r', l, rfl⟩ : ∃ (r : Fin 8) (l : Fin 16384), y = ix2 r l := ⟨y 0, y 1, eq_ix2 y⟩
  obtain rfl : r' = r := Fin.ext h0
  have hl : l.val = off + j.val := h1
  unfold stepSum
  pointwise
  rw [sumUpTo_lane _ _ _ _ (tiles_lane x0 off hoff r' j l hl), rows_lane xs0 off hoff r' j l hl]

theorem hit_at (base : BitVec 32) (h0 : (y 0).val = (x 0).val) (h1 : (y 1).val = off + (x 1).val) :
    same (hitUpTo (tiles x0 off hoff) (place base (names x1 off hoff)) (rows xs0 off hoff) 25 le_rfl) x
      = stepHit base x0 x1 xs0 y := by
  obtain ⟨r, j, rfl⟩ : ∃ (r : Fin 8) (j : Fin 2048), x = ix2 r j := ⟨x 0, x 1, eq_ix2 x⟩
  obtain ⟨r', l, rfl⟩ : ∃ (r : Fin 8) (l : Fin 16384), y = ix2 r l := ⟨y 0, y 1, eq_ix2 y⟩
  obtain rfl : r' = r := Fin.ext h0
  have hl : l.val = off + j.val := h1
  unfold stepHit
  pointwise
  rw [hitUpTo_lane _ _ _ _ _ (tiles_lane x0 off hoff r' j l hl), rows_lane xs0 off hoff r' j l hl, place_lane,
    names_lane x1 off hoff j l hl]

end Cert.KernelIdeal.Chunk

end
-- ==== Proof.Step.lean ====
module

public import proofs.«01_k».proof.Proof.Chunk
public import Idealize.ShloMosaic.Lib.Pipeline.ReadBack

/-!
What one grid point leaves. The generated terms list what a point stores, piece by piece (one piece for each chunk of
2048 samples). Here the pieces are put together: every carried array is, after a point, the whole-array step of
`Chunk.lean` applied to what the point before left (at the first point: to the constants the point itself stores
first), and the result of the last point is the closing formula over the stepped arrays.
-/

@[expose] public section
set_option maxRecDepth 16384
noncomputable section
open Idealize.ShloMosaic Idealize.ShloMosaic.TcCoe Idealize.SL.Sem
namespace Cert.KernelIdeal.Step
open Cert.KernelIdeal Cert.KernelIdeal.Gen Cert.KernelIdeal.Chunk

/-- The pieces of `L` already cover `y`, so what earlier stores left there does not matter. -/
theorem canon_of_cover {Val : EltTy → Type} [∀ e, Nonempty (Val e)] {s : Shape} {e : EltTy} (L' : List (View.Piece Val s e)) :
    ∀ (L : List (View.Piece Val s e)) (y : s.Idx), (∃ p ∈ L, y ∈ p.1.set) → View.canon (L ++ L') y = View.canon L y
  | [], _, h => by obtain ⟨p, hp, _⟩ := h; exact absurd hp List.not_mem_nil
  | p :: L, y, h => by
    by_cases hm : y ∈ p.1.set
    · obtain ⟨x, rfl⟩ := p.1.exists_idx_of_mem hm
      exact (View.canon_cons_emb p.1 p.2 (L ++ L') x).trans (View.canon_cons_emb p.1 p.2 L x).symm
    · have h' : ∃ q ∈ L, y ∈ q.1.set := by
        obtain ⟨q, hq, hy⟩ := h
        rcases List.mem_cons.mp hq with rfl | hq
        · exact absurd hy hm
        · exact ⟨q, hq, hy⟩
      have e := canon_of_cover L' L y h'
      exact (View.canon_cons_of_not_mem p (L ++ L') hm).trans (e.trans (View.canon_cons_of_not_mem p L hm).symm)

/-- Loading a carried array back whole, after the stores of `L`, gives what those stores left. -/
theorem whole_read (v : View sig .tc .vmem S8x16384 .f32) (L : List (View.Piece (Elt Ideal) S8x16384 .f32)) (inb) :
    v.readCov L (Rect.unit ![0, 0] ![8, 16384] inb).toLoadRect = View.canon L := by
  rw [View.readCov_eq_canon']
  exact View.ld_unit_zero (S := S8x16384) (by funext a; fin_cases a <;> rfl) inb (View.canon L)

variable (c : Dev nD) (i : grid0.Coords) (arg1 : Memref sig .tc .vmem S200x16384 .f32) (harg1 : arg1.IsWhole)
  (arg2 : Memref sig .tc .vmem S16384 .i32) (harg2 : arg2.IsWhole) (arg3 : Memref sig .tc .smem S1x1 .f32) (harg3 : arg3.IsWhole)
  (arg4 : Memref sig .tc .vmem S8x16384 .f32) (harg4 : arg4.IsWhole) (arg5 : Memref sig .tc .vmem S8x16384 .f32) (harg5 : arg5.IsWhole)
  (arg6 : Memref sig .tc .vmem S8x16384 .f32) (harg6 : arg6.IsWhole) (arg7 : Memref sig .tc .vmem S8x16384 .f32) (harg7 : arg7.IsWhole)
  (x0 : Vec Ideal S200x16384 .f32) (x1 : Vec Ideal S16384 .i32) (xs0 xs1 xs2 xs3 : Vec Ideal S8x16384 .f32)

/-- The number of the stripe's first class, as the kernel computes it. -/
abbrev base (i : grid0.Coords) : BitVec 32 := Scalar.muli (BitVec.ofNat 32 (i 0).val) 200#32

/-- A middle point steps the running maxima. -/
theorem mid_max (hc0 : ¬cond0_0 i) (hc1 : ¬cond0_1 i) :
    sout0_B_0 c i arg1 harg1 arg2 harg2 arg3 harg3 arg4 harg4 arg5 harg5 arg6 harg6 arg7 harg7 hc0 hc1 x0 x1 xs0 xs1 xs2 xs3
      = stepMax x0 xs0 := by
  funext y
  frame_out
  canon_tiles x h
  all_goals exact max_at x0 xs0 _ (by decide) y x (by omega) (by omega)

/-- A middle point steps the sums of exponentials. -/
theorem mid_exp (hc0 : ¬cond0_0 i) (hc1 : ¬cond0_1 i) :
    sout0_B_1 c i arg1 harg1 arg2 harg2 arg3 harg3 arg4 harg4 arg5 harg5 arg6 harg6 arg7 harg7 hc0 hc1 x0 x1 xs0 xs1 xs2 xs3
      = stepExp x0 xs0 xs1 := by
  funext y
  frame_out
  canon_tiles x h
  all_goals exact exp_at x0 xs0 xs1 _ (by decide) y x (by omega) (by omega)

/-- A middle point steps the sums of scores. -/
theorem mid_sum (hc0 : ¬cond0_0 i) (hc1 : ¬cond0_1 i) :
    sout0_B_2 c i arg1 harg1 arg2 harg2 arg3 harg3 arg4 harg4 arg5 harg5 arg6 harg6 arg7 harg7 hc0 hc1 x0 x1 xs0 xs1 xs2 xs3
      = stepSum x0 xs2 := by
  funext y
  frame_out
  canon_tiles x h
  all_goals exact sum_at x0 xs2 _ (by decide) y x (by omega) (by omega)

/-- A middle point steps the scores of the target class. -/
theorem mid_hit (hc0 : ¬cond0_0 i) (hc1 : ¬cond0_1 i) :
    sout0_B_3 c i arg1 harg1 arg2 harg2 arg3 harg3 arg4 harg4 arg5 harg5 arg6 harg6 arg7 harg7 hc0 hc1 x0 x1 xs0 xs1 xs2 xs3
      = stepHit (base i) x0 x1 xs3 := by
  funext y
  frame_out
  canon_tiles x h
  all_goals exact hit_at x0 x1 xs3 _ (by decide) y x _ (by omega) (by omega)

/-- The first point steps the running maxima from the constant it stores first. -/
theorem first_max (hc0 : cond0_0 i) (hc1 : ¬cond0_1 i) :
    sout0_A_0 c i arg1 harg1 arg2 harg2 arg3 harg3 arg4 harg4 arg5 harg5 arg6 harg6 arg7 harg7 hc0 hc1 x0 x1
      = stepMax x0 (k0_pay3 (F := Ideal)) := by
  funext y
  frame_open
  simp (disch := decide) only [↓ View.readCov_skip, ↓ View.readCov_cons_toLoadRect, ↓ View.readCov_fill]
  frame_out
  refine (canon_of_cover [_] [_, _, _, _, _, _, _, _] y
    (View.cover_of_tiledL (s := S8x16384) _ S8x2048.size (by sl_kernel_rfl) y)).trans ?_
  canon_tiles x h
  all_goals exact max_at x0 (k0_pay3 (F := Ideal)) _ (by decide) y x (by omega) (by omega)

/-- The first point steps the sums of exponentials from the constant it stores first. -/
theorem first_exp (hc0 : cond0_0 i) (hc1 : ¬cond0_1 i) :
    sout0_A_1 c i arg1 harg1 arg2 harg2 arg3 harg3 arg4 harg4 arg5 harg5 arg6 harg6 arg7 harg7 hc0 hc1 x0 x1
      = stepExp x0 (k0_pay3 (F := Ideal)) (k0_pay4 (F := Ideal)) := by
  funext y
  frame_open
  simp (disch := decide) only [↓ View.readCov_skip, ↓ View.readCov_cons_toLoadRect, ↓ View.readCov_fill]
  frame_out
  refine (canon_of_cover [_] [_, _, _, _, _, _, _, _] y
    (View.cover_of_tiledL (s := S8x16384) _ S8x2048.size (by sl_kernel_rfl) y)).trans ?_
  canon_tiles x h
  all_goals exact exp_at x0 (k0_pay3 (F := Ideal)) (k0_pay4 (F := Ideal)) _ (by decide) y x (by omega) (by omega)

/-- The first point steps the sums of scores from the constant it stores first. -/
theorem first_sum (hc0 : cond0_0 i) (hc1 : ¬cond0_1 i) :
    sout0_A_2 c i arg1 harg1 arg2 harg2 arg3 harg3 arg4 harg4 arg5 harg5 arg6 harg6 arg7 harg7 hc0 hc1 x0 x1
      = stepSum x0 (k0_pay5 (F := Ideal)) := by
  funext y
  frame_open
  simp (disch := decide) only [↓ View.readCov_skip, ↓ View.readCov_cons_toLoadRect, ↓ View.readCov_fill]
  frame_out
  refine (canon_of_cover [_] [_, _, _, _, _, _, _, _] y
    (View.cover_of_tiledL (s := S8x16384) _ S8x2048.size (by sl_kernel_rfl) y)).trans ?_
  canon_tiles x h
  all_goals exact sum_at x0 (k0_pay5 (F := Ideal)) _ (by decide) y x (by omega) (by omega)

/-- The first point steps the scores of the target class from the constant it stores first. -/
theorem first_hit (hc0 : cond0_0 i) (hc1 : ¬cond0_1 i) :
    sout0_A_3 c i arg1 harg1 arg2 harg2 arg3 harg3 arg4 harg4 arg5 harg5 arg6 harg6 arg7 harg7 hc0 hc1 x0 x1
      = stepHit (base i) x0 x1 (k0_pay6 (F := Ideal)) := by
  funext y
  frame_open
  simp (disch := decide) only [↓ View.readCov_skip, ↓ View.readCov_cons_toLoadRect, ↓ View.readCov_fill]
  frame_out
  refine (canon_of_cover [_] [_, _, _, _, _, _, _, _] y
    (View.cover_of_tiledL (s := S8x16384) _ S8x2048.size (by sl_kernel_rfl) y)).trans ?_
  canon_tiles x h
  all_goals exact hit_at x0 x1 (k0_pay6 (F := Ideal)) _ (by decide) y x _ (by omega) (by omega)

/-- The last point stores the closing formula over the stepped arrays. -/
theorem last_out (hc0 : ¬cond0_0 i) (hc1 : cond0_1 i) (y : S1x1.Idx) :
    out0_C_2 c i arg1 harg1 arg2 harg2 arg3 harg3 arg4 harg4 arg5 harg5 arg6 harg6 arg7 harg7 hc0 hc1 x0 x1 xs0 xs1 xs2 xs3 y
      = k0_pay2 (stepMax x0 xs0) (stepExp x0 xs0 xs1) (stepSum x0 xs2) (stepHit (base i) x0 x1 xs3) := by
  frame_out
  show k0_pay2 _ _ _ _ = _
  congr 1
  · rw [whole_read]
    funext y
    canon_tiles x h
    all_goals exact max_at x0 xs0 _ (by decide) y x (by omega) (by omega)
  · rw [whole_read]
    funext y
    canon_tiles x h
    all_goals exact exp_at x0 xs0 xs1 _ (by decide) y x (by omega) (by omega)
  · rw [whole_read]
    funext y
    canon_tiles x h
    all_goals exact sum_at x0 xs2 _ (by decide) y x (by omega) (by omega)
  · rw [whole_read]
    funext y
    canon_tiles x h
    all_goals exact hit_at x0 x1 xs3 _ (by decide) y x _ (by omega) (by omega)

/-- The running maxima start at minus infinity, the other three at zero. -/
theorem init_max (y : S8x16384.Idx) : k0_pay3 (F := Ideal) y = (⊥ : EReal) := by
  unfold_payloads
  pointwise []
  simp [Ideal.ofBits, Ideal.ieee]
theorem init_exp (y : S8x16384.Idx) : k0_pay4 (F := Ideal) y = (0 : EReal) := by
  unfold_payloads
  pointwise []
theorem init_sum (y : S8x16384.Idx) : k0_pay5 (F := Ideal) y = (0 : EReal) := by
  unfold_payloads
  pointwise []
theorem init_hit (y : S8x16384.Idx) : k0_pay6 (F := Ideal) y = (0 : EReal) := by
  unfold_payloads
  pointwise []

end Cert.KernelIdeal.Step
-- ==== Proof.Blocks.lean ====
module

public import proofs.«01_k».proof.Proof.Gen.KernelIdeal.Frame
public import Idealize.ShloMosaic.Lib.Pipeline.ValueKit
public import Idealize.ShloMosaic.Lib.Pointwise
public import Idealize.ShloMosaic.Lib.Claim

/-!
Which elements of the two arguments a grid point reads: point `t` reads the scores of the classes `200 t, …, 200 t + 199`
of every sample, one class a row, and every sample's target.
-/

@[expose] public section
noncomputable section
open Idealize.ShloMosaic Idealize.ShloMosaic.TcCoe Idealize.SL.Sem
namespace Cert.KernelIdeal.Blocks
open Cert.KernelIdeal Cert.KernelIdeal.Gen

/-- Where the three windows stand at each point, and which stripe the point is. -/
theorem idx : ∀ t : Fin cfg0.N, win0_0.index t = ![t.val, 0] ∧ win0_1.index t = ![0] ∧ win0_2.index t = ![0, 0]
    ∧ (grid0.coords t 0).val = t.val :=
  (by decide +kernel : ∀ t : Fin grid0.N, _)

variable (m : (ℓ : Loc nD τ sig) → Buf (Elt Ideal) ℓ) (c : Dev nD)

/-- There are five points. -/
theorem point_lt (t : Fin cfg0.N) : t.val < 5 := lt_of_lt_of_eq t.isLt (show cfg0.N = 5 from N_0)

/-- The block of scores at point `t`: row `k` is class `200 t + k`. -/
theorem scores_block (t : Fin cfg0.N) (k : Fin 200) (l : Fin 16384) (k' : Fin 1000) (hk : k'.val = 200 * t.val + k.val) :
    iblk m c 0 t (ix2 k l) = m ((c : Thread nD τ).loc main_arg0) (ix2 l k') := by
  have e := idx t
  unfold iblk
  show V m c (Pipeline.arrRef spec0 0) (((cfg0.win 0).blk t).view.emb (ix2 k l)) = _
  generalize hy : ((cfg0.win 0).blk t).view.emb (ix2 k l) = y
  change V m c main_v0 y = _
  entry_read
  pointwise
  subst hy
  blk_ext [iblk, V, idx t]

/-- The block of targets is the whole array at every point. -/
theorem targets_block (t : Fin cfg0.N) (l : Fin 16384) :
    iblk m c 1 t (ix1 l) = m ((c : Thread nD τ).loc main_arg1) (ix1 l) := by
  blk_ext [iblk, V, idx t]

end Cert.KernelIdeal.Blocks
-- ==== Proof.Lane.lean ====
module

public import Idealize.ShloMosaic.PureOps.Ideal
public import Mathlib.Analysis.SpecialFunctions.Log.Basic

/-!
The arithmetic of one sample over the reals. A sample has 1000 scores; lane `r` of eight carries, of the classes
`r, 8 + r, 16 + r, …` met so far, a reference value `μ` (in the kernel the running maximum; its being the maximum is not
needed here), the sum of `exp (score - μ)`, the sum of the scores, and the score of the target if it was among them.
Combining the eight lanes gives the sample's loss whatever the eight reference values are.
-/

@[expose] public section
noncomputable section
open Idealize.ShloMosaic
namespace Cert.Lane

open Finset

/-- The label-smoothed loss of a sample with scores `x` and target `t`: the logarithm of the sum of exponentials, less
    1/9990 of every score and a further 899/999 of the target's. -/
def sampleLoss (x : ℕ → ℝ) (t : ℕ) : ℝ :=
  Real.log (∑ k ∈ range 1000, Real.exp (x k)) - 1 / 9990 * (∑ k ∈ range 1000, x k) - 899 / 999 * x t

/-- What lane `r` carries after the first `p` of its classes. -/
def Holds (x : ℕ → ℝ) (t r p : ℕ) (M S C D : EReal) : Prop :=
  ∃ μ : ℝ, M = (μ : EReal) ∧ S = ((∑ q ∈ range p, Real.exp (x (8 * q + r) - μ) : ℝ) : EReal)
    ∧ C = ((∑ q ∈ range p, x (8 * q + r) : ℝ) : EReal)
    ∧ D = ((∑ q ∈ range p, if 8 * q + r = t then x (8 * q + r) else 0 : ℝ) : EReal)

/-- A finite sum of reals is the same sum in the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [sum_insert ha, sum_insert ha, EReal.coe_add, ih]

/-- The largest of finitely many reals, and there is at least one, is a real. -/
theorem sup_real {ι : Type*} (s : Finset ι) (hs : s.Nonempty) (e : ι → EReal) (f : ι → ℝ) (he : ∀ k ∈ s, e k = (f k : EReal)) :
    ∃ τ : ℝ, s.sup e = (τ : EReal) := by
  obtain ⟨k, hk, h⟩ := exists_mem_eq_sup s hs e
  exact ⟨f k, h.trans (he k hk)⟩

section
variable (x : ℕ → ℝ) (t r : ℕ) (e : ℕ → EReal) (w : ℕ → Prop) [DecidablePred w]

/-- The new exponentials, scores and target hits of 25 further classes, as reals. -/
theorem news (p : ℕ) (he : ∀ k < 25, e k = (x (8 * (p + k) + r) : EReal)) (hw : ∀ k < 25, (w k ↔ 8 * (p + k) + r = t)) (ν : ℝ) :
    (∑ k ∈ range 25, Ideal.exp (e k - (ν : EReal)) = ((∑ k ∈ range 25, Real.exp (x (8 * (p + k) + r) - ν) : ℝ) : EReal))
    ∧ (∑ k ∈ range 25, e k = ((∑ k ∈ range 25, x (8 * (p + k) + r) : ℝ) : EReal))
    ∧ (∑ k ∈ range 25, (if w k then e k else 0)
        = ((∑ k ∈ range 25, if 8 * (p + k) + r = t then x (8 * (p + k) + r) else 0 : ℝ) : EReal)) := by
  refine ⟨?_, ?_, ?_⟩ <;> rw [coe_sum] <;> refine sum_congr rfl fun k hk => ?_
  · rw [he k (mem_range.mp hk), ← EReal.coe_sub, Ideal.exp_coe]
  · exact he k (mem_range.mp hk)
  · rw [he k (mem_range.mp hk)]
    by_cases h : 8 * (p + k) + r = t
    · rw [if_pos ((hw k (mem_range.mp hk)).mpr h), if_pos h]
    · rw [if_neg fun h' => h ((hw k (mem_range.mp hk)).mp h'), if_neg h]; rfl

/-- The first 25 classes of a lane, met with the reference value at minus infinity and the sums at zero. -/
theorem holds_first (he : ∀ k < 25, e k = (x (8 * (0 + k) + r) : EReal)) (hw : ∀ k < 25, (w k ↔ 8 * (0 + k) + r = t)) :
    Holds x t r 25 (max ⊥ ((range 25).sup e))
      (0 * Ideal.exp (⊥ - max ⊥ ((range 25).sup e)) + ∑ k ∈ range 25, Ideal.exp (e k - max ⊥ ((range 25).sup e)))
      (0 + ∑ k ∈ range 25, e k) (0 + ∑ k ∈ range 25, if w k then e k else 0) := by
  obtain ⟨τ, hτ⟩ := sup_real (range 25) ⟨0, by simp⟩ e _ fun k hk => he k (mem_range.mp hk)
  obtain ⟨h1, h2, h3⟩ := news x t r e w 0 he hw τ
  have hm : max (⊥ : EReal) ((range 25).sup e) = (τ : EReal) := by rw [hτ]; exact max_eq_right bot_le
  rw [hm, h1, h2, h3]
  refine ⟨τ, rfl, ?_, ?_, ?_⟩ <;> simp only [zero_mul, zero_add]

/-- 25 further classes: the sum of exponentials is rescaled from the old reference value to the new one. -/
theorem holds_step (p : ℕ) (M S C D : EReal) (h : Holds x t r p M S C D) (he : ∀ k < 25, e k = (x (8 * (p + k) + r) : EReal))
    (hw : ∀ k < 25, (w k ↔ 8 * (p + k) + r = t)) :
    Holds x t r (p + 25) (max M ((range 25).sup e))
      (S * Ideal.exp (M - max M ((range 25).sup e)) + ∑ k ∈ range 25, Ideal.exp (e k - max M ((range 25).sup e)))
      (C + ∑ k ∈ range 25, e k) (D + ∑ k ∈ range 25, if w k then e k else 0) := by
  obtain ⟨μ, hM, hS, hC, hD⟩ := h
  obtain ⟨τ, hτ⟩ := sup_real (range 25) ⟨0, by simp⟩ e _ fun k hk => he k (mem_range.mp hk)
  obtain ⟨h1, h2, h3⟩ := news x t r e w p he hw (max μ τ)
  have hm : max M ((range 25).sup e) = ((max μ τ : ℝ) : EReal) := by rw [hM, hτ]; exact (EReal.coe_strictMono.monotone.map_max).symm
  rw [hm, h1, h2, h3, hM, hS, hC, hD]
  refine ⟨max μ τ, rfl, ?_, ?_, ?_⟩
  · rw [← EReal.coe_sub, Ideal.exp_coe, ← EReal.coe_mul, ← EReal.coe_add, sum_range_add, sum_mul]
    congr 2
    refine sum_congr rfl fun q _ => ?_
    rw [← Real.exp_add]
    congr 1
    ring
  · rw [← EReal.coe_add, sum_range_add]
  · rw [← EReal.coe_add, sum_range_add]

end

/-- The classes of the eight lanes together are the 1000 classes. -/
theorem lanes_sum (g : ℕ → ℝ) (n : ℕ) : ∑ r : Fin 8, ∑ q ∈ range n, g (8 * q + r.val) = ∑ k ∈ range (8 * n), g k := by
  rw [sum_comm]
  induction n with
  | zero => simp
  | succ n ih =>
    rw [sum_range_succ, ih, Nat.mul_succ, sum_range_add]
    congr 1

/-- The fold by `max` from minus infinity is the largest. -/
theorem fold_max_real {n : ℕ} (hn : 0 < n) (f : Fin n → EReal) (g : Fin n → ℝ) (h : ∀ k, f k = (g k : EReal)) :
    ∃ τ : ℝ, Finset.univ.fold max (⊥ : EReal) f = (τ : EReal) :=
  sup_real Finset.univ ⟨⟨0, hn⟩, mem_univ _⟩ f g fun k _ => h k

/-- The eight lanes combined are the sample's loss. -/
theorem combine (x : ℕ → ℝ) (t : ℕ) (ht : t < 1000) (M S C D : Fin 8 → EReal)
    (h : ∀ r : Fin 8, Holds x t r.val 125 (M r) (S r) (C r) (D r)) :
    Finset.univ.fold max (⊥ : EReal) M
        + Ideal.log (∑ r, S r * Ideal.exp (M r - Finset.univ.fold max (⊥ : EReal) M))
        - ((1 / 9990 : ℝ) : EReal) * ∑ r, C r - ((899 / 999 : ℝ) : EReal) * ∑ r, D r
      = (sampleLoss x t : EReal) := by
  choose μ hM hS hC hD using h
  obtain ⟨ν, hν⟩ := fold_max_real (by decide) M μ hM
  have hs : ∑ r, S r * Ideal.exp (M r - (ν : EReal)) = ((Real.exp (-ν) * ∑ k ∈ range 1000, Real.exp (x k) : ℝ) : EReal) := by
    rw [mul_sum, show 1000 = 8 * 125 from rfl, ← lanes_sum (fun k => Real.exp (-ν) * Real.exp (x k)) 125, coe_sum]
    refine sum_congr rfl fun r _ => ?_
    rw [hS, hM, ← EReal.coe_sub, Ideal.exp_coe, ← EReal.coe_mul, sum_mul]
    congr 1
    refine sum_congr rfl fun q _ => ?_
    rw [← Real.exp_add, ← Real.exp_add]
    congr 1
    ring
  have hc : ∑ r, C r = ((∑ k ∈ range 1000, x k : ℝ) : EReal) := by
    rw [show 1000 = 8 * 125 from rfl, ← lanes_sum x 125, coe_sum]
    exact sum_congr rfl fun r _ => hC r
  have hd : ∑ r, D r = ((x t : ℝ) : EReal) := by
    have : x t = ∑ k ∈ range 1000, if k = t then x k else 0 := by
      rw [sum_ite_eq' (range 1000) t x, if_pos (mem_range.mpr ht)]
    rw [this, show 1000 = 8 * 125 from rfl, ← lanes_sum (fun k => if k = t then x k else 0) 125, coe_sum]
    exact sum_congr rfl fun r _ => hD r
  have hpos : 0 < ∑ k ∈ range 1000, Real.exp (x k) := sum_pos (fun k _ => Real.exp_pos _) ⟨0, by simp⟩
  have hpos' := mul_pos (Real.exp_pos (-ν)) hpos
  rw [hν, hs, hc, hd, Ideal.log_coe, if_neg (not_le.mpr hpos'), ← EReal.coe_add, ← EReal.coe_mul, ← EReal.coe_sub, ← EReal.coe_mul,
    ← EReal.coe_sub, Real.log_mul (Real.exp_pos _).ne' hpos.ne', Real.log_exp]
  congr 1
  unfold sampleLoss
  ring

end Cert.Lane
-- ==== Proof.State.lean ====
module

public import proofs.«01_k».proof.Proof.Step
public import proofs.«01_k».proof.Proof.Blocks
public import proofs.«01_k».proof.Proof.Lane
public import Idealize.ShloMosaic.Lib.Pipeline.Value

/-!
What the kernel's carried arrays and its result hold. With finite scores `x l k` and targets `T l` among the 1000
classes, after point `n` lane `r` of sample `l` carries what `Lane.Holds` says of its first `25 (n + 1)` classes; the
last point combines the lanes, so that the result is the mean of the samples' losses.
-/

@[expose] public section
set_option maxRecDepth 16384
noncomputable section
open Idealize.ShloMosaic Idealize.ShloMosaic.TcCoe Idealize.SL.Sem
namespace Cert.KernelIdeal.State
open Cert.KernelIdeal Cert.KernelIdeal.Gen Cert.KernelIdeal.Chunk Cert.KernelIdeal.Step Cert.KernelIdeal.Blocks Cert.Lane

/-- The word comparison that finds the target says that the class is the target. -/
theorem hit_iff (T n r k : ℕ) (hT : T < 1000) (hn : n < 5) (hr : r < 8) (hk : k < 25) :
    (BitVec.ofNat 32 T - Scalar.muli (BitVec.ofNat 32 n) 200#32 - BitVec.ofNat 32 r = BitVec.ofNat 32 (8 * k))
      ↔ 8 * (25 * n + k) + r = T := by
  show (BitVec.ofNat 32 T - BitVec.ofNat 32 n * 200#32 - BitVec.ofNat 32 r = BitVec.ofNat 32 (8 * k)) ↔ _
  bv_omega

variable (m : (ℓ : Loc nD τ sig) → Buf (Elt Ideal) ℓ) (c : Dev nD) (x : ℕ → ℕ → ℝ) (T : ℕ → ℕ)

/-- The arguments hold the finite scores `x` and the targets `T`, each a class. -/
structure Inputs : Prop where
  score : ∀ (l : Fin 16384) (k : Fin 1000), m ((c : Thread nD τ).loc main_arg0) (ix2 l k) = ((x l.val k.val : ℝ) : EReal)
  target : ∀ l : Fin 16384, m ((c : Thread nD τ).loc main_arg1) (ix1 l) = BitVec.ofNat 32 (T l.val)
  target_lt : ∀ l : Fin 16384, T l.val < 1000

variable {m c x T}

/-- The stripe's entry `8 k + r` at sample `l` is the score of class `8 (25 t + k) + r`. -/
theorem entry_score (h : Inputs m c x T) (t : Fin cfg0.N) (r : Fin 8) (l : Fin 16384) (k : ℕ) (hk : k < 25) :
    entry (iblk m c 0 t) r l k = ((x l.val (8 * (25 * t.val + k) + r.val) : ℝ) : EReal) := by
  have ht := point_lt t
  have hr := r.isLt
  unfold entry
  rw [scores_block m c t _ l ⟨8 * (25 * t.val + k) + r.val, by omega⟩ (by simp only []; omega), h.score]

/-- Whether the stripe's class `8 k + r` is the sample's target, as the kernel decides it. -/
theorem hit_block (h : Inputs m c x T) (t : Fin cfg0.N) (r : Fin 8) (l : Fin 16384) (k : ℕ) (hk : k < 25)
    (tg : Vec Ideal S16384 .i32) (htg : tg = iblk m c 1 t) :
    (tg (ix1 l) - base (grid0.coords t) - BitVec.ofNat 32 r.val = BitVec.ofNat 32 (8 * k))
      ↔ 8 * (25 * t.val + k) + r.val = T l.val := by
  rw [htg, targets_block, h.target, base, (idx t).2.2.2]
  exact hit_iff _ _ _ _ (h.target_lt l) (point_lt t) r.isLt hk

/-- One lane of four carried arrays holds the sums of the lane's first `p` classes. -/
def HoldsAt (x : ℕ → ℕ → ℝ) (T : ℕ → ℕ) (p : ℕ) (M S C D : Vec Ideal S8x16384 .f32) : Prop :=
  ∀ (r : Fin 8) (l : Fin 16384), Holds (x l.val) (T l.val) r.val p (M (ix2 r l)) (S (ix2 r l)) (C (ix2 r l)) (D (ix2 r l))

/-- The first point, from the constants it stores first. -/
theorem first_holds (h : Inputs m c x T) (t : Fin cfg0.N) (ht : t.val = 0) :
    HoldsAt x T 25 (stepMax (iblk m c 0 t) (k0_pay3 (F := Ideal))) (stepExp (iblk m c 0 t) (k0_pay3 (F := Ideal)) (k0_pay4 (F := Ideal)))
      (stepSum (iblk m c 0 t) (k0_pay5 (F := Ideal)))
      (stepHit (base (grid0.coords t)) (iblk m c 0 t) (iblk m c 1 t) (k0_pay6 (F := Ideal))) := by
  intro r l
  unfold stepMax stepExp stepSum stepHit
  simp only [init_max, init_exp, init_sum, init_hit]
  exact holds_first (x l.val) (T l.val) r.val (entry (iblk m c 0 t) r l) _
    (fun k hk => by have := entry_score h t r l k hk; rwa [ht] at this)
    (fun k hk => by have := hit_block h t r l k hk _ rfl; rwa [ht] at this)

/-- A later point, from what the point before left. -/
theorem step_holds (h : Inputs m c x T) (t : Fin cfg0.N) (M S C D : Vec Ideal S8x16384 .f32) (hp : HoldsAt x T (25 * t.val) M S C D) :
    HoldsAt x T (25 * t.val + 25) (stepMax (iblk m c 0 t) M) (stepExp (iblk m c 0 t) M S) (stepSum (iblk m c 0 t) C)
      (stepHit (base (grid0.coords t)) (iblk m c 0 t) (iblk m c 1 t) D) := by
  intro r l
  exact holds_step (x l.val) (T l.val) r.val (entry (iblk m c 0 t) r l) _ (25 * t.val) _ _ _ _ (hp r l)
    (fun k hk => entry_score h t r l k hk) (fun k hk => hit_block h t r l k hk _ rfl)

/-- After point `n`, not the last, the carried arrays hold the first `25 (n + 1)` classes of every lane. -/
theorem carried (h : Inputs m c x T) (n : ℕ) (hn : n < cfg0.N) (hn4 : n < 4) :
    HoldsAt x T (25 * n + 25) (outsAt0 m c n hn).2.1 (outsAt0 m c n hn).2.2.1 (outsAt0 m c n hn).2.2.2.1 (outsAt0 m c n hn).2.2.2.2 := by
  induction n with
  | zero =>
    rw [outsAt0_A m c ⟨0, hn⟩ rfl (by show ¬0 % 5 = 4; decide)]
    dsimp only
    rw [first_max, first_exp, first_sum, first_hit]
    exact first_holds h ⟨0, hn⟩ rfl
  | succ n ih =>
    rw [outsAt0_B m c ⟨n + 1, hn⟩ (by dsimp only; omega) (by dsimp only; omega)]
    dsimp only
    rw [mid_max, mid_exp, mid_sum, mid_hit]
    exact step_holds h ⟨n + 1, hn⟩ _ _ _ _ (ih (Nat.lt_of_succ_lt hn) (by omega))

/-- The closing formula over lanes that hold all their classes: the samples' losses summed, times 1/16384. -/
theorem closing (M S C D : Vec Ideal S8x16384 .f32) (hT : ∀ l : Fin 16384, T l.val < 1000) (hp : HoldsAt x T 125 M S C D) :
    k0_pay2 M S C D = (((∑ l ∈ Finset.range 16384, sampleLoss (x l) (T l)) * (1 / 16384) : ℝ) : EReal) := by
  unfold_payloads
  pointwise
  rw [show (Named.named κ "off_weight" 953281749#32 : Ideal .f32) = ((1 / 9990 : ℝ) : EReal) from IdealRules.named_const.ideal_named_scalar _ _ _ _ rfl,
    show (Named.named κ "weight_gap" 1063673815#32 : Ideal .f32) = ((899 / 999 : ℝ) : EReal) from IdealRules.named_const.ideal_named_scalar _ _ _ _ rfl,
    show Ideal.ofBits FTy.f32 4286578688#32 = (⊥ : EReal) by simp [Ideal.ofBits, Ideal.ieee],
    show Ideal.ofBits FTy.f32 947912704#32 = ((1 / 16384 : ℝ) : EReal) by simp [Ideal.ofBits, Ideal.ieee, -EReal.coe_mul]; norm_num,
    EReal.coe_mul, ← Fin.sum_univ_eq_sum_range (fun l => sampleLoss (x l) (T l)), coe_sum]
  refine congrArg (fun s : EReal => s * ((1 / 16384 : ℝ) : EReal)) (Finset.sum_congr rfl fun l _ => ?_)
  exact combine (x l.val) (T l.val) (hT l) (fun r => M (ix2 r l)) (fun r => S (ix2 r l)) (fun r => C (ix2 r l)) (fun r => D (ix2 r l))
    fun r => hp r l

/-- The last point. -/
def last : Fin cfg0.N := ⟨4, lt_of_lt_of_eq (by decide) (show cfg0.N = 5 from N_0).symm⟩

/-- What the last point leaves in the result. -/
theorem result_last (h : Inputs m c x T) (y : S1x1.Idx) :
    (outsAt0 m c last.val last.isLt).1 y = (((∑ l ∈ Finset.range 16384, sampleLoss (x l) (T l)) * (1 / 16384) : ℝ) : EReal) := by
  rw [outsAt0_C m c last (by decide) (by decide)]
  dsimp only
  rw [last_out]
  exact closing _ _ _ _ h.target_lt (step_holds h last _ _ _ _ (carried h 3 _ (by decide)))

/-- The kernel's result after the run: one number, the mean of the samples' losses. -/
theorem result (h : Inputs m c x T) :
    (dats m 0 c).arrAt 2 cfg0.N = fun _ => (((∑ l ∈ Finset.range 16384, sampleLoss (x l) (T l)) * (1 / 16384) : ℝ) : EReal) := by
  refine Pipeline.Dat.arrAt_eq_of_after_last (dats m 0 c) 2 last (by decide +kernel) _ fun j => ?_
  blk_simp
  rw [after0_2]
  exact result_last h j

end Cert.KernelIdeal.State
-- ==== Proof.Weights.lean ====
module

public import proofs.«01_k».proof.Proof.Gen.ReferenceIdeal.Read
public import Idealize.ShloMosaic.Lib.Pointwise
public import Idealize.ShloMosaic.Lib.Routing.OpsPair
public import Idealize.ShloMosaic.Lib.Routing.OpsSet

/-!
The reference's table of weights: 1/9990 everywhere, and 9/10 stored at every sample's target.
-/

@[expose] public section
noncomputable section
open Idealize.ShloMosaic Idealize.ShloMosaic.TcCoe Idealize.SL.Sem
namespace Cert.ReferenceIdeal.Value
open Cert.ReferenceIdeal Cert.ReferenceIdeal.Read

variable (x1 : (⟨S16384, .i32⟩ : BufTy).Contents (Elt Ideal))

/-- The targets are the classes `T`. -/
structure Targets (T : ℕ → ℕ) : Prop where
  word : ∀ l : Fin 16384, x1 (ix1 l) = BitVec.ofNat 32 (T l.val)
  lt : ∀ l : Fin 16384, T l.val < 1000

/-- Where an update's row starts: its first index word, read signed. -/
theorem start_row (idx : IVec S16384x2 32) (l : Fin 16384) :
    scatter_S16384x1000_S16384x2_S16384_n_01_01_1.start (ix1 l) idx 0 = (idx (ix2 l (0 : Fin 2))).toInt := by
  unfold ScatterDims.start
  rw [dif_pos (by decide)]
  congr 2
  funext a
  match a with
  | ⟨0, _⟩ => rfl
  | ⟨1, _⟩ => rfl

/-- Where an update's column starts: its second index word, read signed. -/
theorem start_col (idx : IVec S16384x2 32) (l : Fin 16384) :
    scatter_S16384x1000_S16384x2_S16384_n_01_01_1.start (ix1 l) idx 1 = (idx (ix2 l (1 : Fin 2))).toInt := by
  unfold ScatterDims.start
  rw [dif_pos (by decide)]
  congr 2
  funext a
  match a with
  | ⟨0, _⟩ => rfl
  | ⟨1, _⟩ => rfl

/-- An update is one number: it has no offset of its own on either axis. -/
theorem no_window (l : Fin 16384) (a : Fin 2) :
    scatter_S16384x1000_S16384x2_S16384_n_01_01_1.window (ix1 l) a = 0 := by
  match a with
  | ⟨0, _⟩ => rfl
  | ⟨1, _⟩ => rfl

/-- Update `j` lands at row `l` and column `k` exactly when its two index words are `l` and `k`. -/
theorem lands (idx : IVec S16384x2 32) (j l : Fin 16384) (k : Fin 1000) :
    scatter_S16384x1000_S16384x2_S16384_n_01_01_1.resultIdx? (ix1 j) idx = some (ix2 l k)
      ↔ (idx (ix2 j (0 : Fin 2))).toInt = l.val ∧ (idx (ix2 j (1 : Fin 2))).toInt = k.val := by
  rw [Routing.resultIdx?_eq_some]
  constructor
  · intro h
    have h0 := h 0
    have h1 := h 1
    rw [start_row, no_window] at h0
    rw [start_col, no_window] at h1
    exact ⟨by simpa using h0, by simpa using h1⟩
  · intro h a
    match a with
    | ⟨0, _⟩ => exact (congrArg₂ (· + ·) (start_row idx j) (congrArg Nat.cast (no_window j 0))).trans (by simpa using h.1)
    | ⟨1, _⟩ => exact (congrArg₂ (· + ·) (start_col idx j) (congrArg Nat.cast (no_window j 1))).trans (by simpa using h.2)

/-- The first index word of update `j` is `j`. -/
theorem index_row (j : Fin 16384) : val_main_v18 (F := Ideal) x1 (ix2 j (0 : Fin 2)) = BitVec.ofNat 32 j.val := by
  pointwise [val_main_v18, val_main_v17, val_main_v16, val_main_v10, val_main_v9, val_main_v8, val_main_v7, val_main_v6, val_main_v4,
    val_main_c, val_main_c_3]
  have := j.isLt
  exact Routing.wrap_of_lt _ _ (by rw [BitVec.toNat_ofNat, Nat.mod_eq_of_lt (by omega)]; omega)

variable {x1} {T : ℕ → ℕ}

/-- The second index word of update `j` is sample `j`'s target. -/
theorem index_col (h : Targets x1 T) (j : Fin 16384) : val_main_v18 (F := Ideal) x1 (ix2 j (1 : Fin 2)) = BitVec.ofNat 32 (T j.val) := by
  pointwise [val_main_v18, val_main_v17, val_main_v16, val_main_v15, val_main_v14, val_main_v13, val_main_v12, val_main_v11, val_main_c_4, val_main_c_5]
  rw [h.word]
  have := h.lt j
  exact Routing.wrap_of_lt _ _ (by rw [BitVec.toNat_ofNat, Nat.mod_eq_of_lt (by omega)]; omega)

/-- A small natural number written as a word and read signed is itself. -/
theorem toInt_small (n : ℕ) (h : n < 20000) : (BitVec.ofNat 32 n).toInt = n := by
  rw [BitVec.toInt_eq_toNat_of_lt (by rw [BitVec.toNat_ofNat]; omega), BitVec.toNat_ofNat, Nat.mod_eq_of_lt (by omega)]

/-- The weight of a target. -/
theorem on_weight (i : S16384.Idx) : val_main_v19 (F := Ideal) i = ((9 / 10 : ℝ) : EReal) := by
  pointwise [val_main_v19, val_main_v5, val_main_cst_2, val_main_v0, val_main_cst, val_main_cst_0]
  rw [show Ideal.ofBits FTy.f32 1092616192#32 = ((10 : ℝ) : EReal) by simp [Ideal.ofBits, Ideal.ieee, -EReal.coe_mul]; norm_num,
    Ideal.div_coe (by norm_num), one_mul, ← EReal.coe_one, ← EReal.coe_sub]
  norm_num

/-- The weight of every other class. -/
theorem off_weight (i : S16384x1000.Idx) : val_main_v3 (F := Ideal) i = ((1 / 9990 : ℝ) : EReal) := by
  pointwise [val_main_v3, val_main_v2, val_main_v0, val_main_cst, val_main_cst_0, val_main_cst_1]
  rw [show Ideal.ofBits FTy.f32 1092616192#32 = ((10 : ℝ) : EReal) by simp [Ideal.ofBits, Ideal.ieee, -EReal.coe_mul]; norm_num,
    show Ideal.ofBits FTy.f32 1148829696#32 = ((999 : ℝ) : EReal) by simp [Ideal.ofBits, Ideal.ieee, -EReal.coe_mul]; norm_num,
    Ideal.div_coe (by norm_num), Ideal.div_coe (by norm_num), one_mul, ← EReal.coe_mul]
  norm_num

/-- The table of weights. -/
theorem weight (h : Targets x1 T) (l : Fin 16384) (k : Fin 1000) :
    val_main_v20 (F := Ideal) x1 (ix2 l k) = (((if k.val = T l.val then 9 / 10 else 1 / 9990 : ℝ)) : EReal) := by
  have hl := l.isLt
  unfold val_main_v20
  by_cases e : k.val = T l.val
  · rw [if_pos e]
    refine Routing.scatter_set_hit _ _ _ _ (ix2 l k) _ (fun j _ => on_weight j) (ix1 l) ((lands _ l l k).mpr ⟨?_, ?_⟩)
    · rw [index_row, toInt_small _ (by omega)]
    · rw [index_col h, toInt_small _ (by have := h.lt l; omega), e]
  · rw [if_neg e]
    refine (Routing.scatter_set_miss _ _ _ _ (ix2 l k) fun j hj => e ?_).trans (off_weight _)
    obtain ⟨j, rfl⟩ : ∃ j' : Fin 16384, j = ix1 j' := ⟨j 0, by funext a; match a with | ⟨0, _⟩ => rfl⟩
    have hj' := j.isLt
    obtain ⟨h0, h1⟩ := (lands _ j l k).mp hj
    rw [index_row, toInt_small _ (by omega)] at h0
    rw [index_col h, toInt_small _ (by have := h.lt j; omega)] at h1
    have : j = l := Fin.ext (by exact_mod_cast h0)
    subst this
    exact_mod_cast h1.symm

end Cert.ReferenceIdeal.Value
-- ==== Proof.LogSoftmax.lean ====
module

public import proofs.«01_k».proof.Proof.Gen.ReferenceIdeal.Read
public import proofs.«01_k».proof.Proof.Lane
public import Idealize.ShloMosaic.Lib.Pointwise

/-!
The reference's logarithm of the softmax: with finite scores it is the score less the logarithm of the sum of the row's
exponentials, whatever number the row's maximum is.
-/

@[expose] public section
noncomputable section
open Idealize.ShloMosaic Idealize.ShloMosaic.TcCoe Idealize.SL.Sem
namespace Cert.ReferenceIdeal.Value
open Cert.ReferenceIdeal Cert.ReferenceIdeal.Read Cert.Lane

variable (x0 : (⟨S16384x1000, .f32⟩ : BufTy).Contents (Elt Ideal)) (x1 : (⟨S16384, .i32⟩ : BufTy).Contents (Elt Ideal))

/-- The scores are the finite numbers `x`. -/
def Scores (x : ℕ → ℕ → ℝ) : Prop := ∀ (l : Fin 16384) (k : Fin 1000), x0 (ix2 l k) = ((x l.val k.val : ℝ) : EReal)

/-- The word of minus infinity. -/
theorem neg_inf : Ideal.ofBits FTy.f32 4286578688#32 = (⊥ : EReal) := by simp [Ideal.ofBits, Ideal.ieee]

/-- A row's maximum, as the reference takes it. -/
theorem row_max (l : Fin 16384) :
    val_main_call0_v0 (F := Ideal) x0 (ix1 l) = Finset.univ.fold max (⊥ : EReal) (fun k : Fin 1000 => x0 (ix2 l k)) := by
  pointwise [val_main_call0_v0, val_main_call0_cst]
  rw [neg_inf]

variable {x0} {x : ℕ → ℕ → ℝ}

/-- A row's maximum is a real number. -/
theorem row_max_real (h : Scores x0 x) (l : Fin 16384) : ∃ ν : ℝ, val_main_call0_v2 (F := Ideal) x0 (ix1 l) = (ν : EReal) := by
  obtain ⟨ν, hν⟩ := fold_max_real (by decide) (fun k : Fin 1000 => x0 (ix2 l k)) (fun k => x l.val k.val) (h l)
  refine ⟨ν, ?_⟩
  have e : val_main_call0_v1 (F := Ideal) (ix1 l) = (⊥ : EReal) := by
    pointwise [val_main_call0_v1, val_main_call0_cst_0]
    rw [neg_inf]
  rw [val_main_call0_v2_apply, e, row_max, hν]
  exact max_eq_right bot_le

/-- A score less its row's maximum. -/
theorem shifted (l : Fin 16384) (k : Fin 1000) :
    val_main_call0_v5 (F := Ideal) x0 (ix2 l k) = x0 (ix2 l k) - val_main_call0_v2 (F := Ideal) x0 (ix1 l) := by
  have e : val_main_call0_v4 (F := Ideal) x0 (ix2 l k) = val_main_call0_v2 (F := Ideal) x0 (ix1 l) := by
    pointwise [val_main_call0_v4, val_main_call0_v3]
  rw [val_main_call0_v5_apply, e]
  rfl

/-- The sum of a row's exponentials. -/
theorem row_sum (l : Fin 16384) :
    val_main_call0_v7 (F := Ideal) x0 (ix1 l) = ∑ k : Fin 1000, Ideal.exp (val_main_call0_v5 (F := Ideal) x0 (ix2 l k)) := by
  pointwise [val_main_call0_v7, val_main_call0_v6, val_main_call0_cst_1]

/-- The logarithm of a row's sum, at every class of the row. -/
theorem row_log (l : Fin 16384) (k : Fin 1000) :
    val_main_call0_v10 (F := Ideal) x0 (ix2 l k) = Ideal.log (val_main_call0_v7 (F := Ideal) x0 (ix1 l)) := by
  pointwise [val_main_call0_v10, val_main_call0_v9, val_main_call0_v8]

/-- The logarithm of the softmax: the score less the logarithm of the sum of the row's exponentials. -/
theorem log_prob (h : Scores x0 x) (l : Fin 16384) (k : Fin 1000) :
    val_main_v1 (F := Ideal) x0 (ix2 l k)
      = ((x l.val k.val - Real.log (∑ j ∈ Finset.range 1000, Real.exp (x l.val j)) : ℝ) : EReal) := by
  obtain ⟨ν, hν⟩ := row_max_real h l
  have hs : ∀ j : Fin 1000, val_main_call0_v5 (F := Ideal) x0 (ix2 l j) = ((x l.val j.val - ν : ℝ) : EReal) := fun j => by
    rw [shifted, hν, h l j, ← EReal.coe_sub]
  have hpos : 0 < ∑ j ∈ Finset.range 1000, Real.exp (x l.val j) :=
    Finset.sum_pos (fun k _ => Real.exp_pos _) ⟨0, by simp⟩
  have hsum : val_main_call0_v7 (F := Ideal) x0 (ix1 l)
      = ((Real.exp (-ν) * ∑ j ∈ Finset.range 1000, Real.exp (x l.val j) : ℝ) : EReal) := by
    rw [row_sum, Finset.mul_sum, ← Fin.sum_univ_eq_sum_range (fun j => Real.exp (-ν) * Real.exp (x l.val j)), coe_sum]
    refine Finset.sum_congr rfl fun j _ => ?_
    rw [hs, Ideal.exp_coe, ← Real.exp_add, neg_add_eq_sub]
  rw [val_main_v1_apply, row_log, hs, hsum, Ideal.log_coe, if_neg (not_le.mpr (mul_pos (Real.exp_pos _) hpos)),
    Real.log_mul (Real.exp_pos _).ne' hpos.ne', Real.log_exp]
  generalize Real.log (∑ j ∈ Finset.range 1000, Real.exp (x l.val j)) = s
  refine (EReal.coe_sub _ _).symm.trans (congrArg (fun r : ℝ => (r : EReal)) ?_)
  ring

end Cert.ReferenceIdeal.Value
-- ==== Proof.Inputs.lean ====
module

public import proofs.«01_k».proof.Proof.State
public import proofs.«01_k».proof.Proof.Weights
public import proofs.«01_k».proof.Proof.LogSoftmax
public import proofs.«01_k».proof.Proof.Gen.Pre_valid_inputs
public import Idealize.ShloMosaic.Lib.ReduceAll
public import Idealize.ShloMosaic.Lib.WordArith

/-!
What the precondition says: every score is a real number, and every target is one of the 1000 classes.
-/

@[expose] public section
noncomputable section
open Idealize.ShloMosaic Idealize.ShloMosaic.TcCoe Idealize.SL.Sem
namespace Cert.Inputs
open Cert.Pre_valid_inputs

variable (p : FVec Ideal S16384x1000 .f32) (t : IVec S16384 32)

/-- The scores as real numbers, numbered by sample and class. -/
def score (l k : ℕ) : ℝ := EReal.toReal (if h : l < 16384 ∧ k < 1000 then p (ix2 ⟨l, h.1⟩ ⟨k, h.2⟩) else 0)

/-- The targets as natural numbers, numbered by sample. -/
def target (l : ℕ) : ℕ := if h : l < 16384 then (t (ix1 ⟨l, h⟩)).toNat else 0

/-- The precondition, element by element: both comparisons of a score and both of a target are true. -/
theorem elements (h : fn (F := Ideal) p t = fun _ => 1#1) (l : Fin 16384) :
    (∀ k : Fin 1000, Ideal.cmp .olt (p (ix2 l k)) (Ideal.ofBits .f32 0x7F800000#32) = 1#1
      ∧ Ideal.cmp .ogt (p (ix2 l k)) (Ideal.ofBits .f32 0xFF800000#32) = 1#1)
      ∧ IntOp.cmpi .sge (t (ix1 l)) 0#32 = 1#1 ∧ IntOp.cmpi .slt (t (ix1 l)) 1000#32 = 1#1 := by
  haveI : Subsingleton S_.Idx := ⟨fun a b => funext fun d => d.elim0⟩
  obtain ⟨hp, ht⟩ := IntOp.andi_eq_one.1 (congrFun h (fun d => d.elim0))
  exact ⟨fun k => IntOp.andi_eq_one.1 (Host.reduce_andi_all _ _ _ _ _ hp (ix2 l k)),
    IntOp.andi_eq_one.1 (Host.reduce_andi_all _ _ _ _ _ ht (ix1 l))⟩

variable {p t}

/-- Every score is a real number. -/
theorem score_eq (h : fn (F := Ideal) p t = fun _ => 1#1) (l : Fin 16384) (k : Fin 1000) :
    p (ix2 l k) = ((score p l.val k.val : ℝ) : EReal) := by
  obtain ⟨hlt, hgt⟩ := (elements p t h l).1 k
  have top : Ideal.ofBits FTy.f32 0x7F800000#32 = (⊤ : EReal) := by simp [Ideal.ofBits, Ideal.ieee]
  rw [top] at hlt
  rw [Cert.ReferenceIdeal.Value.neg_inf] at hgt
  simp only [Ideal.cmp, WordArith.ofBool_eq_one_iff, decide_eq_true_eq] at hlt hgt
  unfold score
  rw [dif_pos ⟨l.isLt, k.isLt⟩]
  exact (EReal.coe_toReal hlt.ne hgt.ne').symm

/-- Every target is among the classes. -/
theorem target_lt (h : fn (F := Ideal) p t = fun _ => 1#1) (l : Fin 16384) : target t l.val < 1000 := by
  obtain ⟨hge, hlt⟩ := (elements p t h l).2
  simp only [IntOp.cmpi, WordArith.ofBool_eq_one_iff] at hge hlt
  unfold target
  rw [dif_pos l.isLt]
  exact WordArith.toNat_lt_of_zero_sle_of_slt_ofNat _ 1000 (by decide) hge hlt

/-- A target's word is the word of its number. -/
theorem target_eq (l : Fin 16384) : t (ix1 l) = BitVec.ofNat 32 (target t l.val) := by
  unfold target
  rw [dif_pos l.isLt]
  exact BitVec.eq_of_toNat_eq (by rw [BitVec.toNat_ofNat, Nat.mod_eq_of_lt (BitVec.isLt _)])

end Cert.Inputs
-- ==== Proof.Reference.lean ====
module

public import proofs.«01_k».proof.Proof.LogSoftmax
public import proofs.«01_k».proof.Proof.Weights

/-!
What the reference computes with finite scores and targets among the classes: the mean of the samples' losses, the same
number as the kernel's.
-/

@[expose] public section
noncomputable section
open Idealize.ShloMosaic Idealize.ShloMosaic.TcCoe Idealize.SL.Sem
namespace Cert.ReferenceIdeal.Value
open Cert.ReferenceIdeal Cert.ReferenceIdeal.Read Cert.Lane

/-- A sample's weighted sum. The weights sum to one, so that the logarithm of the sum of exponentials comes out whole; a
    class's score comes out with weight 1/9990, and the target's with 899/999 more. -/
theorem weighted_sum (x : ℕ → ℝ) (t : ℕ) (ht : t < 1000) (s : ℝ) :
    ∑ k ∈ Finset.range 1000, -(if k = t then 9 / 10 else 1 / 9990 : ℝ) * (x k - s)
      = s - 1 / 9990 * (∑ k ∈ Finset.range 1000, x k) - 899 / 999 * x t := by
  have e : ∀ k ∈ Finset.range 1000, -(if k = t then 9 / 10 else 1 / 9990 : ℝ) * (x k - s)
      = 1 / 9990 * s + -(1 / 9990) * x k + (if k = t then -(899 / 999) * (x k - s) else 0) := fun k _ => by
    split <;> ring
  rw [Finset.sum_congr rfl e, Finset.sum_add_distrib, Finset.sum_add_distrib, ← Finset.mul_sum _ x, Finset.sum_const,
    Finset.card_range, Finset.sum_ite_eq' (Finset.range 1000) t (fun k => -(899 / 999) * (x k - s)), if_pos (Finset.mem_range.mpr ht)]
  generalize ∑ k ∈ Finset.range 1000, x k = σ
  rw [nsmul_eq_mul]
  push_cast
  ring

variable {x0 : (⟨S16384x1000, .f32⟩ : BufTy).Contents (Elt Ideal)} {x1 : (⟨S16384, .i32⟩ : BufTy).Contents (Elt Ideal)}
  {x : ℕ → ℕ → ℝ} {T : ℕ → ℕ}

/-- One sample's loss. -/
theorem sample (h0 : Scores x0 x) (h1 : Targets x1 T) (l : Fin 16384) :
    ∑ k : Fin 1000, -val_main_v20 (F := Ideal) x1 (ix2 l k) * val_main_v1 (F := Ideal) x0 (ix2 l k) = (sampleLoss (x l.val) (T l.val) : EReal) := by
  unfold sampleLoss
  rw [← weighted_sum (x l.val) (T l.val) (h1.lt l)]
  generalize hs : Real.log (∑ k ∈ Finset.range 1000, Real.exp (x l.val k)) = s
  rw [← Fin.sum_univ_eq_sum_range (fun k => -(if k = T l.val then 9 / 10 else 1 / 9990 : ℝ) * (x l.val k - s)), coe_sum]
  refine Finset.sum_congr rfl fun k _ => ?_
  rw [weight h1, log_prob h0, hs, EReal.coe_mul, EReal.coe_neg]

/-- The reference's result: the mean of the samples' losses. -/
theorem reference_value (h0 : Scores x0 x) (h1 : Targets x1 T) :
    val_main_v26 (F := Ideal) x0 x1
      = fun _ => (((∑ l ∈ Finset.range 16384, sampleLoss (x l) (T l)) * (1 / 16384) : ℝ) : EReal) := by
  funext i
  pointwise [val_main_v26, val_main_v25, val_main_v24, val_main_v23, val_main_v22, val_main_v21, val_main_cst_6, val_main_cst_7, val_main_cst_8]
  rw [show Ideal.ofBits FTy.f32 1182793728#32 = ((16384 : ℝ) : EReal) by simp [Ideal.ofBits, Ideal.ieee, -EReal.coe_mul]; norm_num,
    Ideal.div_coe (by norm_num), EReal.coe_mul, ← Fin.sum_univ_eq_sum_range (fun l => sampleLoss (x l) (T l)), coe_sum]
  exact congrArg (fun s : EReal => s * ((1 / 16384 : ℝ) : EReal)) (Finset.sum_congr rfl fun l _ => sample h0 h1 l)

end Cert.ReferenceIdeal.Value
-- ==== Proof.Algebraic.lean ====
module

public import proofs.«01_k».proof.Defs
public import proofs.«01_k».proof.Proof.Inputs
public import proofs.«01_k».proof.Proof.Reference
public import proofs.«01_k».proof.Proof.Gen.KernelIdeal.Value

/-!
The value claim: from equal arguments that the precondition allows, the kernel and the reference both end with the mean
of the samples' losses.
-/

@[expose] public section
noncomputable section
open Idealize.ShloMosaic Idealize.ShloMosaic.TcCoe Idealize.SL.Sem
namespace Cert.Proof
open Cert.Lane Cert.Inputs

/-- The mean of the samples' losses, as an extended real. -/
def meanLoss (x : ℕ → ℕ → ℝ) (T : ℕ → ℕ) : EReal :=
  (((∑ l ∈ Finset.range 16384, sampleLoss (x l) (T l)) * (1 / 16384) : ℝ) : EReal)

/-- The kernel's launch memory holds the scores and the targets that the precondition speaks of. -/
theorem kernel_inputs (m : (ℓ : Loc Cert.KernelIdeal.nD Cert.KernelIdeal.τ Cert.KernelIdeal.sig) → Buf (Elt Ideal) ℓ)
    (h : Cert.Pre_KernelIdeal_valid_inputs (hPre_valid_inputs := Cert.Pre_valid_inputs.Gen.facts) m) (c : Dev Cert.KernelIdeal.nD) :
    Cert.KernelIdeal.State.Inputs m c
      (score (m ((c.tc : Thread Cert.KernelIdeal.nD Cert.KernelIdeal.τ).loc Cert.KernelIdeal.main_arg0)))
      (target (m ((c.tc : Thread Cert.KernelIdeal.nD Cert.KernelIdeal.τ).loc Cert.KernelIdeal.main_arg1))) :=
  ⟨fun l k => score_eq (h c) l k, fun l => target_eq l, fun l => target_lt (h c) l⟩

/-- From memories with equal arguments that the precondition allows, both programs run and end with the mean loss. -/
theorem algebraic : Cert.algebraic_KernelIdeal_ReferenceIdeal_pre_valid_inputs (hKernelIdeal := Cert.KernelIdeal.Gen.facts)
    (hReferenceIdeal := Cert.ReferenceIdeal.Gen.facts) (hPre_valid_inputs := Cert.Pre_valid_inputs.Gen.facts) := by
  intro m g m' g' hpre hargs
  refine ⟨fun c => fun _ => meanLoss
      (score (m ((c.tc : Thread Cert.KernelIdeal.nD Cert.KernelIdeal.τ).loc Cert.KernelIdeal.main_arg0)))
      (target (m ((c.tc : Thread Cert.KernelIdeal.nD Cert.KernelIdeal.τ).loc Cert.KernelIdeal.main_arg1))), ?_, ?_⟩
  · exact (θ_run Cert.KernelIdeal.defs _ _).mono
      (fun r h c => ⟨(h c).1.trans (Cert.KernelIdeal.State.result (kernel_inputs m hpre c)), (h c).2⟩)
      (Cert.KernelIdeal.Value.run_blocks m g)
  · refine (θ_run Cert.ReferenceIdeal.defs _ _).mono (fun r h c => ⟨?_, (h c).2⟩) (Cert.ReferenceIdeal.Value.run (F := Ideal) m' g')
    refine (h c).1.trans ((Cert.ReferenceIdeal.Read.val_main_v26_eq (F := Ideal) _ _).trans ?_)
    rw [(hargs c).1, (hargs c).2]
    exact Cert.ReferenceIdeal.Value.reference_value (fun l k => score_eq (hpre c) l k) ⟨fun l => target_eq l, fun l => target_lt (hpre c) l⟩

end Cert.Proof
-- ==== Proof.lean ====
module

public import proofs.«01_k».proof.Defs
public import proofs.«01_k».proof.Proof.Frames
public import proofs.«01_k».proof.Proof.Algebraic
public import proofs.«01_k».proof.Proof.Gen.KernelIdeal.Value
public import proofs.«01_k».proof.Proof.Gen.ReferenceIdeal.Read
public import proofs.«01_k».proof.Proof.Gen.Pre_valid_inputs

@[expose] public section

noncomputable section

namespace Cert.Proof

/-- Every claim of the certificate: the frames (those stated under the precondition hold without it), the two named
    weights, and the value claim. -/
theorem claim : Cert.Claim :=
  ⟨Cert.Kernel.Gen.facts, Cert.KernelIdeal.Gen.facts, Cert.ReferenceIdeal.Gen.facts, Cert.Pre_valid_inputs.Gen.facts,
    frame_p, frame_pi, fun m ρ _ => Cert.KernelIdeal.Gen.frame m ρ, frame_ri, fun m ρ _ => reference_frame m ρ,
    preserves, algebraic⟩

end Cert.Proof

end
